-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v19) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2x2048x32000 : Shape := ⟨3, ![2, 2048, 32000]⟩
abbrev S1x32000 : Shape := ⟨2, ![1, 32000]⟩
abbrev S8x32000 : Shape := ⟨2, ![8, 32000]⟩
abbrev S_ : Shape := ⟨0, ![]⟩
abbrev S1x8x32000 : Shape := ⟨3, ![1, 8, 32000]⟩
abbrev S32000 : Shape := ⟨1, ![32000]⟩

abbrev nBuf : Table → Nat
  | .hbm => 2
  | .shared => 1
  | _ => 0

abbrev bufTy : (tb : Table) → Fin (nBuf tb) → BufTy
  | .hbm, ⟨0, _⟩ => ⟨S2x2048x32000, .f32⟩
  | .hbm, ⟨1, _⟩ => ⟨S1x32000, .f32⟩
  | .shared, ⟨0, _⟩ => ⟨S8x32000, .f32⟩
  | _, _ => ⟨S2x2048x32000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S2x2048x32000 : Shape := ⟨3, ![2, 2048, 32000]⟩
abbrev S1 : Shape := ⟨1, ![1]⟩
abbrev S_ : Shape := ⟨0, ![]⟩
abbrev S1x1 : Shape := ⟨2, ![1, 1]⟩
abbrev S1x2 : Shape := ⟨2, ![1, 2]⟩
abbrev S1x32000 : Shape := ⟨2, ![1, 32000]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x32000, .f32⟩
  | .hbm, ⟨1, _⟩ => ⟨S1, .i32⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1, .i1⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1, .i1⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S1, .i1⟩
  | .hbm, ⟨21, _⟩ => ⟨S_, .i32⟩
  | .hbm, ⟨22, _⟩ => ⟨S1, .i32⟩
  | .hbm, ⟨23, _⟩ => ⟨S1, .i32⟩
  | .hbm, ⟨24, _⟩ => ⟨S1, .i32⟩
  | .hbm, ⟨25, _⟩ => ⟨S1x1, .i32⟩
  | .hbm, ⟨26, _⟩ => ⟨S1x1, .i32⟩
  | .hbm, ⟨27, _⟩ => ⟨S1x2, .i32⟩
  | .hbm, ⟨28, _⟩ => ⟨S1x32000, .f32⟩
  | _, _ => ⟨S2x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Row.lean ====
/-
  What the kernel's two transfers move, as functions of multi-indices. The first transfer fills the 8 × 32000 buffer in
  the SparseCore's shared memory with rows 2040 … 2047 of `logits[0]`; the second writes the buffer's row 7 over the
  1 × 32000 result. Together (`written_eq`): the result holds `logits[0, 2047, :]`, whatever it and the buffer held before.
-/
module

public import proofs.«01_k».proof.Defs
public import proofs.«01_k».proof.Proof.Gen.KernelIdeal
public import Idealize.ShloMosaic.Lib.ValueIdx

@[expose] public section

noncomputable section

namespace Cert.Proof.LastRow

open Cert.KernelIdeal Cert.KernelIdeal.Gen
open Idealize.ShloMosaic Idealize.ShloMosaic.ValueIdx

/-- The last token's row of the first batch element, as a 1 × 32000 array: column `k` is `x[0, 2047, k]`. -/
def lastRow {α : Type} (x : S2x2048x32000.Idx → α) : S1x32000.Idx → α := fun i => x (ix3 (0 : Fin 2) (2047 : Fin 2048) (i 1))

/-! ## The three windows the transfers name, spelt as the kernel spells them -/

/-- Rows 2040 … 2047 of `logits[0]`. -/
abbrev srcM : Memref sig .scScalar .hbm S8x32000 .f32 :=
  ((Memref.whole main_arg0_scs).slice (Rect.unit (s := S2x2048x32000) ![0, 2040, 0] S1x8x32000.size inb_S2x2048x32000_S1x8x32000_0_2040_0)
    (fun _ => rfl)).squeeze S8x32000 squeezes_S1x8x32000_S8x32000
/-- Row 7 of the shared buffer. -/
abbrev midM : Memref sig .scScalar .shared S32000 .f32 :=
  ((Memref.whole cc0_scratch0).slice (Rect.unit (s := S8x32000) ![7, 0] S1x32000.size inb_S8x32000_S1x32000_7_0)
    (fun _ => rfl)).squeeze S32000 squeezes_S1x32000_S32000
/-- The result's one row. -/
abbrev dstM : Memref sig .scScalar .hbm S32000 .f32 :=
  ((Memref.whole main_v0_scs).slice (Rect.unit (s := S1x32000) ![0, 0] S1x32000.size inb_S1x32000_S1x32000_0_0)
    (fun _ => rfl)).squeeze S32000 squeezes_S1x32000_S32000

/-! ## Where an index of a window lies in its array -/

/-- Row `j`, column `k` of the source window is `logits[0, 2040 + j, k]`. -/
theorem srcM_emb (j : Fin 8) (k : Fin 32000) :
    srcM.view.emb (ix2 j k) = ix3 (0 : Fin 2) (⟨2040 + j.val, by omega⟩ : Fin 2048) k := by
  show (Rect.unit (s := S2x2048x32000) ![0, 2040, 0] S1x8x32000.size inb_S2x2048x32000_S1x8x32000_0_2040_0).emb
    (Shape.reshapeEquiv (s := S1x8x32000) (s' := S8x32000) _ (ix2 j k)) = _
  rw [Shape.reshapeEquiv_cons_one]
  funext a; refine Fin.ext ?_
  match a with
  | ⟨0, _⟩ => rfl
  | ⟨1, _⟩ => show 2040 + 1 * j.val = 2040 + j.val; omega
  | ⟨2, _⟩ => show 0 + 1 * k.val = k.val; omega

/-- Column `k` of the buffer's window is its element `[7, k]`. -/
theorem midM_emb (k : Fin 32000) : midM.view.emb (ix1 k) = ix2 (7 : Fin 8) k := by
  show (Rect.unit (s := S8x32000) ![7, 0] S1x32000.size inb_S8x32000_S1x32000_7_0).emb
    (Shape.reshapeEquiv (s := S1x32000) (s' := S32000) _ (ix1 k)) = _
  rw [Shape.reshapeEquiv_cons_one]
  funext a; refine Fin.ext ?_
  match a with
  | ⟨0, _⟩ => rfl
  | ⟨1, _⟩ => show 0 + 1 * k.val = k.val; omega

/-- Column `k` of the result's window is its element `[0, k]`. -/
theorem dstM_emb (k : Fin 32000) : dstM.view.emb (ix1 k) = ix2 (0 : Fin 1) k := by
  show (Rect.unit (s := S1x32000) ![0, 0] S1x32000.size inb_S1x32000_S1x32000_0_0).emb
    (Shape.reshapeEquiv (s := S1x32000) (s' := S32000) _ (ix1 k)) = _
  rw [Shape.reshapeEquiv_cons_one]
  funext a; refine Fin.ext ?_
  match a with
  | ⟨0, _⟩ => rfl
  | ⟨1, _⟩ => show 0 + 1 * k.val = k.val; omega

/-! ## The two transfers composed -/

variable {Val : EltTy → Type}

/-- The buffer after the first transfer, at row `j` and column `k`. -/
theorem staged_apply (fx : S2x2048x32000.Idx → Val .f32) (fb : S8x32000.Idx → Val .f32) (j : Fin 8) (k : Fin 32000) :
    (Memref.whole cc0_scratch0).view.write Val fb (srcM.view.read Val fx) Finset.univ (ix2 j k)
      = fx (ix3 (0 : Fin 2) (⟨2040 + j.val, by omega⟩ : Fin 2048) k) := by
  refine (congrFun (View.write_whole_univ (Val := Val) cc0_scratch0 fb (srcM.view.read Val fx)) (ix2 j k)).trans ?_
  rw [View.read_apply, cast_eq, srcM_emb]

/-- The result after both transfers, at column `k`. -/
theorem written_apply (fx : S2x2048x32000.Idx → Val .f32) (fb : S8x32000.Idx → Val .f32) (fo : S1x32000.Idx → Val .f32) (k : Fin 32000) :
    dstM.view.write Val fo
        (midM.view.read Val ((Memref.whole cc0_scratch0).view.write Val fb (srcM.view.read Val fx) Finset.univ)) Finset.univ
        (ix2 (0 : Fin 1) k)
      = fx (ix3 (0 : Fin 2) (2047 : Fin 2048) k) := by
  rw [← dstM_emb k, View.write_emb_of_mem _ _ (Finset.mem_univ _), cast_eq, View.read_apply, cast_eq, midM_emb, staged_apply]
  rfl

/-- The result after both transfers is the last row of `logits[0]`. -/
theorem written_eq (fx : S2x2048x32000.Idx → Val .f32) (fb : S8x32000.Idx → Val .f32) (fo : S1x32000.Idx → Val .f32) :
    dstM.view.write Val fo
        (midM.view.read Val ((Memref.whole cc0_scratch0).view.write Val fb (srcM.view.read Val fx) Finset.univ)) Finset.univ
      = lastRow fx := by
  refine funext fun (i : S1x32000.Idx) => ?_
  obtain ⟨k, rfl⟩ : ∃ k : Fin 32000, i = ix2 (0 : Fin 1) k :=
    ⟨i 1, (eq_ix2 i).trans (congrArg (fun z => ix2 z (i 1)) (Subsingleton.elim (α := Fin 1) _ _))⟩
  exact written_apply fx fb fo k

end Cert.Proof.LastRow

end
-- ==== Proof.Body.lean ====
/-
  The kernel's body on SparseCore 0's sequencer. It copies rows 2040 … 2047 of `logits[0]` into the buffer in its
  SparseCore's shared memory, waits, copies the buffer's row 7 to the result, and waits. `body_run` states it in the body's
  own spelling: from the operand, the result, the buffer and the two semaphores' counters at zero it ends with the operand as
  it was, the result at `lastRow` of the operand, the buffer at anything, the counters at zero. `body_obl` states the same
  from what the launch deals a sequencer: everything scoped to it, of which the body needs the buffer and the two counters.
-/
module

public import proofs.«01_k».proof.Proof.Row
public import Idealize.ShloMosaic.Lib.SparseCore.Quiescent
public import Idealize.ShloMosaic.Lib.Pipeline.Kit
public import Idealize.ShloMosaic.Lib.Tactic

@[expose] public section

noncomputable section

namespace Cert.Proof.LastRow

open Cert.KernelIdeal Cert.KernelIdeal.Gen
open Idealize.ShloMosaic
open Idealize.ShloMosaic.SparseCore (S)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The setting: the program's SparseCore configuration, the ghost state, the arrays -/

/-- The labels of the program's kernels, under the pipeline library's. -/
abbrev ΛP : Labels := Pipeline.Sig Λ₀ (Fin 0) fun p => (pcfgs (F := F) p).Adm
/-- The program's one SparseCore call. -/
abbrev K : SparseCore.Cfg τ sig (ΛP (F := F)) 1 := sc (F := F)
abbrev 𝒱₀ : Variants := Variants.none

/-- The ghost state: the launch handshakes' rounds, and the counters of the body's own transfers. -/
abbrev UU : Type := URounds (GSem nD τ sig) ℕ × Counters

local notation "𝕄" => MT nD τ sig (HIx 1) (Elt F) ℕ UU ℕ

/-- The operand, the result and the shared buffer, as the sequencer names them. -/
abbrev xW : Memref sig Kind.scScalar Space.hbm S2x2048x32000 EltTy.f32 := Memref.whole main_arg0_scs
abbrev oW : Memref sig Kind.scScalar Space.hbm S1x32000 EltTy.f32 := Memref.whole main_v0_scs
abbrev bW : Memref sig Kind.scScalar Space.shared S8x32000 EltTy.f32 := Memref.whole cc0_scratch0

/-- The operand `logits` and the result, on device `d`; the shared buffer of SparseCore `c`. -/
abbrev xLoc (d : Dev nD) : Loc nD τ sig := (SparseCore.T d).loc main_arg0
abbrev oLoc (d : Dev nD) : Loc nD τ sig := (SparseCore.T d).loc main_v0
abbrev bLoc (d : Dev nD) (c : Fin τ.nSC) : Loc nD τ sig := (S d c).loc cc0_scratch0

/-- The result that the program is to leave: the last row of `logits[0]`. -/
abbrev rowOf {d : Dev nD} (fx : Buf (Elt F) (xLoc d)) : Buf (Elt F) (oLoc d) := lastRow (α := Elt F .f32) fx

/-- The grid's one point. -/
def pt (c : Fin (grid0.bound 0)) : grid0.Coords := fun | 0 => c | ⟨_ + 1, h⟩ => absurd h (Nat.not_lt.2 (Nat.le_add_left _ _))
/-- The SparseCore that runs it, and that SparseCore's sequencer. -/
abbrev core0 (h : 0 < grid0.bound 0) : Fin τ.nSC := (⟨0, h⟩ : Fin (grid0.bound 0)).castLE hcore0
abbrev seq0 (d : Dev nD) (h : 0 < grid0.bound 0) : Thread nD τ := S d (core0 h)

/-- The two DMA semaphores of sequencer `c` that the body names. -/
abbrev cell0 (d : Dev nD) (c : Fin τ.nSC) : GSem nD τ sig := (S d c, .dma (cc0_scoped0).sem)
abbrev cell1 (d : Dev nD) (c : Fin τ.nSC) : GSem nD τ sig := (S d c, .dma (cc0_scoped1).sem)

/-! ## The body's run -/

/-- The body's run: `logits` comes back as it was, the result at its last row, the shared buffer at some contents, both
    counters at zero. -/
theorem body_run [FloatOps F] (d : Dev nD) (h : 0 < grid0.bound 0) (O : CellTallies nD τ sig (HIx 1)) (W : Waits sig (HIx 1))
    (fx : Buf (Elt F) (xW.view.loc (seq0 d h)))
    (fo : Buf (Elt F) (oW.view.loc (seq0 d h))) (fb : Buf (Elt F) (bW.view.loc (seq0 d h))) :
    (iprop(Transfers.MayWaits (seq0 d h) (none : HIx 1) O
        ∗ (xW.view.loc (seq0 d h) ↦{fullShare} fx)
        ∗ (oW.view.loc (seq0 d h) ↦{fullShare} fo)
        ∗ (bW.view.loc (seq0 d h) ↦{fullShare} fb)
        ∗ semVal (cell0 d (core0 h)) 0 ∗ semVal (cell1 d (core0 h)) 0
        ∗ owes (seq0 d h) O W) : sProp 𝕄)
      ⊢ wp frame (wpE (defs₀ (F := F)) 𝒱₀ (seq0 d h) none) Set.univ
          (cc0__copy_row (pt ⟨0, h⟩) xW (Memref.isWhole_whole _) oW (Memref.isWhole_whole _)
            bW (Memref.isWhole_whole _) cc0_scoped0 cc0_scoped1)
          fun _ => iprop((xW.view.loc (seq0 d h) ↦{fullShare} fx)
            ∗ (oW.view.loc (seq0 d h) ↦{fullShare} lastRow (α := Elt F .f32) fx)
            ∗ (∃ f, bW.view.loc (seq0 d h) ↦{fullShare} f)
            ∗ semVal (cell0 d (core0 h)) 0 ∗ semVal (cell1 d (core0 h)) 0
            ∗ ∃ W', owes (seq0 d h) O W') := by
  iintro ⟨#Hmw, Hx, Ho, Hb, Hc0, Hc1, HO⟩
  sl_unfold [cc0__copy_row]
  sl_exec
  sl_step
  unfold body_run.sl.dma0_1 body_run.sl.dma0
  ihave Ho' := (Entails.of_eq (congrArg (fun f => (oW.view.loc (seq0 d h) ↦{fullShare} f : sProp 𝕄))
    (written_eq (Val := Elt F) fx fb fo))) $$ Ho
  isplitl [Hx]; · iexact Hx
  isplitl [Ho']; · iexact Ho'
  isplitl [Hb]; · iexists _; iexact Hb
  isplitl [Hc0]; · iexact Hc0
  isplitl [Hc1]; · iexact Hc1
  iexists _; iexact HO

/-! ## What the launch deals a sequencer, opened at what the body names -/

/-- Both semaphores are the sequencer's own. -/
theorem cell_mem (d : Dev nD) (c : Fin τ.nSC) (s : DmaSem sig) : ((S d c, .dma s) : GSem nD τ sig) ∈ ownCells (S d c) :=
  mem_ownCells.mpr ⟨rfl, (show ∀ s : DmaSem sig, (SemLoc.dma s : SemLoc sig).isScoped .scScalar = true by decide) s⟩

theorem cell_ne (d : Dev nD) (c : Fin τ.nSC) : cell1 d c ≠ cell0 d c := fun e =>
  absurd (congrArg (fun g : GSem nD τ sig => g.2) e)
    (show (SemLoc.dma (cc0_scoped1).sem : SemLoc sig) ≠ SemLoc.dma (cc0_scoped0).sem by decide)

/-- The sequencer's counters at zero: the two that the body names, and the rest. -/
theorem ownSems0_open (d : Dev nD) (c : Fin τ.nSC) :
    (ownSems0 (S d c) : sProp 𝕄)
      = iprop(semVal (cell0 d c) 0 ∗ semVal (cell1 d c) 0
          ∗ bigSep (((ownCells (S d c)).erase (cell0 d c)).erase (cell1 d c)) fun g => semVal g 0) := by
  unfold SparseCore.Cfg.ownSems0
  rw [SparseCore.bigSep_erase' (cell_mem d c (cc0_scoped0).sem),
    SparseCore.bigSep_erase' (Finset.mem_erase.mpr ⟨cell_ne d c, cell_mem d c (cc0_scoped1).sem⟩)]

/-- The sequencer's buffers: the shared one that the body names, and the rest. -/
theorem ownBufs_open (d : Dev nD) (c : Fin τ.nSC) :
    (ownBufs (S d c) : sProp 𝕄)
      = iprop((∃ f, bLoc d c ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-- The body from what the launch deals: the operand at `fx` and the result at anything come back with the result at
    the last row of the operand, and everything scoped as it was dealt. -/
theorem body_obl [FloatOps F] (d : Dev nD) (hF : (K (F := F)).Facts) (h : 0 < grid0.bound 0) (O : CellTallies nD τ sig (HIx 1))
    (W : Waits sig (HIx 1)) (hO : ∀ g, O g none = 0) (fx : Buf (Elt F) (xLoc d)) :
    iprop(levAts (K (F := F)).L (K (F := F)).lev ∗ emp ∗ ((xLoc d ↦{fullShare} fx) ∗ ∃ f, oLoc d ↦{fullShare} f)
        ∗ scopedBufs (seq0 d h) ∗ scopedSems0 (seq0 d h) ∗ owes (seq0 d h) O W)
      ⊢ (wp frame (wpE (defs₀ (F := F)) 𝒱₀ (seq0 d h) none) Set.univ
          (cc0__copy_row (pt ⟨0, h⟩) xW (Memref.isWhole_whole _) oW (Memref.isWhole_whole _)
            bW (Memref.isWhole_whole _) cc0_scoped0 cc0_scoped1)
          fun _ => iprop(((xLoc d ↦{fullShare} fx) ∗ oLoc d ↦{fullShare} rowOf fx)
            ∗ scopedBufs (seq0 d h) ∗ scopedSems0 (seq0 d h)
            ∗ ∃ W', ⌜∀ p ∈ W', p ∈ W ∨ p.2 = none ∨ p.2 = some (0 : Fin 1)⌝ ∗ owes (seq0 d h) O W') : sProp 𝕄) := by
  rw [(K (F := F)).scopedBufs_S hF d _, SparseCore.Cfg.scopedSems0_S (Val := Elt F) d _, ownSems0_open, ownBufs_open]
  iintro ⟨#Hlv, -, ⟨Hx, %fo, Ho⟩, ⟨⟨⟨%fb, Hb⟩, Hbufs⟩, Htbufs⟩, ⟨⟨Hc0, Hc1, Hsems⟩, Htsems⟩, HO⟩
  ihave Hmw := ((K (F := F)).mayWaits_none (thr := seq0 d h) hO) $$ Hlv
  iapply (wp_wand_r Idealize.ShloMosaic.frame (wpE (defs₀ (F := F)) 𝒱₀ (seq0 d h) none) Set.univ)
  isplitl [Hx Ho Hb Hc0 Hc1 HO]
  · iapply (body_run d h O W fx fo fb)
    isplitr; · iexact Hmw
    isplitl [Hx]; · iexact Hx
    isplitl [Ho]; · iexact Ho
    isplitl [Hb]; · iexact Hb
    isplitl [Hc0]; · iexact Hc0
    isplitl [Hc1]; · iexact Hc1
    iexact HO
  iintro %_ ⟨Hx, Ho, ⟨%fb', Hb⟩, Hc0, Hc1, %W', HO⟩
  isplitl [Hx Ho]
  · isplitl [Hx]; · iexact Hx
    iexact Ho
  isplitl [Hb Hbufs Htbufs]
  · isplitl [Hb Hbufs]
    · isplitl [Hb]; · iexists fb'; iexact Hb
      iexact Hbufs
    iexact Htbufs
  isplitl [Hc0 Hc1 Hsems Htsems]
  · isplitl [Hc0 Hc1 Hsems]
    · isplitl [Hc0]; · iexact Hc0
      isplitl [Hc1]; · iexact Hc1
      iexact Hsems
    iexact Htsems
  iexists W'; isplitr
  · -- with one call there is no other index a wait could be recorded at
    ipureintro; intro p _
    rcases p.2 with _ | q
    · exact .inr (.inl rfl)
    · exact .inr (.inr (congrArg some (Subsingleton.elim q 0)))
  · iexact HO

end Cert.Proof.LastRow

end
-- ==== Proof.Run.lean ====
/-
  The whole program's run. @main is the one SparseCore call: the TensorCore hands `logits` and the result's array to
  SparseCore 0's sequencer, which runs the body (Body.lean) and hands them back with the result at the last row. The launch
  theorem `Cfg.θ_run_sc_quiescent` puts the device's threads together. `run_main`, over any float values: every fair execution
  ends, without fault, with the result at `lastRow` of `logits`, `logits` unchanged, and every semaphore counter at zero.
-/
module

public import proofs.«01_k».proof.Proof.Body

@[expose] public section

noncomputable section

namespace Cert.Proof.LastRow

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, as a part of the ghost state. -/
abbrev EH : Emb (URounds (GSem nD τ sig) ℕ) (MT nD τ sig (HIx 1) (Elt F) ℕ UU ℕ) := embL

variable (m : (ℓ : Loc nD τ sig) → Buf (Elt F) ℓ) (ρ : Dev nD → PrngReg)

/-- `logits` at its launch contents; the result at the last row of them. -/
abbrev xPts (d : Dev nD) : sProp 𝕄 := xLoc d ↦{fullShare} m (xLoc d)
abbrev oPts (d : Dev nD) : sProp 𝕄 := oLoc d ↦{fullShare} rowOf (m (xLoc d))

/-- What the call's handshake carries: out, `logits` and the result's array at anything; back, the same with the result
    at the last row. -/
def P : (K (F := F)).Pay (nD := nD) (Val := Elt F) (Name := ℕ) (U := UU) where
  st := fun _ d _ => iprop(xPts m d ∗ ∃ f, oLoc d ↦{fullShare} f)
  dn := fun _ d _ => iprop(xPts m d ∗ oPts m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's obligation -/

theorem defs₀_seq [FloatOps F] (c : Fin τ.nSC) :
    defs₀ (F := F) (.scScalar c) 0 ()
      = SparseCore.onCore hcore0 (fun c => cc0__copy_row (pt c) (Memref.whole main_arg0_scs) (Memref.isWhole_whole _)
          (Memref.whole main_v0_scs) (Memref.isWhole_whole _) (Memref.whole cc0_scratch0) (Memref.isWhole_whole _)
          cc0_scoped0 cc0_scoped1) ⟨⟩ c := rfl

/-- SparseCore 0's sequencer does what the call's handshake promises. -/
theorem seqObl [FloatOps F] : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_seq]; simp only [SparseCore.onCore, hc, ↓reduceDIte]
  match c with
  | ⟨0, h⟩ => exact body_obl d facts h O W hO (m (xLoc d))

/-! ## The launch's ghost state -/

def u₀ : UU := (initOf (K (F := F)).hsCells (K (F := F)).hsToks, 1)

theorem emps {I : Type} (s : Finset I) : (bigSep s fun _ => iprop(emp)) = (iprop(emp) : sProp 𝕄) := bigSep_emp_const s

/-- It is the handshakes' rounds; the call holds nothing of its own from the launch. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (emps _)
  rw [hx, emps]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main on the TensorCore -/

/-- The TensorCore's arrays: `logits` and the result. -/
theorem unscoped_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st_eq (d : Dev nD) :
    (bigSep Finset.univ fun c : Fin ((K (F := F)).nCore 0) => (P m).st 0 d c) = iprop(xPts m d ∗ ∃ f, oLoc d ↦{fullShare} f) :=
  bigSep_univ_of_subsingleton (0 : Fin 1)
theorem dn_eq (d : Dev nD) : (bigSep Finset.univ fun c : Fin ((K (F := F)).nCore 0) => (P m).dn 0 d c) = iprop(xPts m d ∗ oPts m d) :=
  bigSep_univ_of_subsingleton (0 : Fin 1)

/-- @main: the call, by the library's rule, from both arrays to both arrays. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ (xPts m d ∗ oPts m d) ∗ (K (F := F)).tcEnd d) := by
  unfold SparseCore.Cfg.tcRes SparseCore.Cfg.tcEnd
  rw [unscoped_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st_eq]
    isplitl [Hx]; · iexact Hx
    iexists _; iexact Ho
  iintro ⟨Hst, Hdn⟩
  ihave Hdn' := (Entails.of_eq (dn_eq m d)) $$ Hdn
  icases Hdn' with ⟨Hx, Ho⟩
  imodintro
  isplitl [Hst]; · iexact Hst
  isplitl [Hx Ho]
  · isplitl [Hx]; · iexact Hx
    iexact Ho
  isplitl [Hb] <;> iassumption

/-! ## The run -/

/-- What holds of device `d`'s memory at the end. -/
def Ends (d : Dev nD) (s : Phys nD τ sig (Elt F)) : Prop :=
  s.mem.mem (xLoc d) = m (xLoc d) ∧ s.mem.mem (oLoc d) = rowOf (m (xLoc d))

theorem hfin (d : Dev nD) (s : Phys nD τ sig (Elt F)) : iprop((xPts m d ∗ oPts m d) ∗ SI s) ⊢ (⌜Ends m d s⌝ : sProp 𝕄) := by
  iintro ⟨⟨Hx, Ho⟩, HSI⟩
  icombine HSI Hx gives %hx
  icombine HSI Ho gives %ho
  ipureintro
  exact ⟨funext fun i => hx i (Finset.mem_univ i), funext fun i => ho i (Finset.mem_univ i)⟩

/-- Every weak fair execution of the program ends, without fault, with the result at the last row of `logits[0]`, `logits`
    as it was at launch, and every semaphore counter at zero. -/
theorem run_main [FloatOps F] [∀ e, Nonempty (Elt F e)] :
    θ_run (Cert.KernelIdeal.defs (F := F)) (Cert.KernelIdeal.threads (F := F)) ⟨m, fun _ => 0, ρ⟩ fun r =>
      (∀ c : Dev nD, r.2.mem (oLoc c) = rowOf (m (xLoc c)) ∧ r.2.mem (xLoc c) = m (xLoc c)) ∧ r.2.sem = fun _ => 0 :=
  SparseCore.Cfg.θ_run_sc_quiescent (K := K (F := F)) (D := D (F := F)) (𝒱 := 𝒱) (EH := EH) (P := P m) (A := ∅) facts v₀
    (fun q _ => match q with | 0 => seqObl m)
    (fun q hq => match q with | 0 => nomatch hq)
    (fun q hq => match q with | 0 => nomatch hq)
    m ρ main (fun _ => iprop(emp)) (fun d => iprop(xPts m d ∗ oPts m d)) (u₀ (F := F)) (sep_elim_left.trans (hu₀ m)) (hmain m ρ)
    (Ends m) (hfin m) _ (fun _ h hz => ⟨fun c => ⟨(h c).2, (h c).1⟩, hz⟩)

end Cert.Proof.LastRow

end
-- ==== Proof.Ref.lean ====
/-
  The reference's result is the last row too. Its @main ends in one `stablehlo.gather` of `logits` at the pair of start
  indices that `[0, -1]` wraps to: 0 stays 0, and -1 becomes -1 + 2048 = 2047. `gather_eq` reads the gather at any pair
  `[0, 2047]` of start indices; `run_ideal` and `run_float` put it behind the two reference programs' runs.
-/
module

public import proofs.«01_k».proof.Proof.Row
public import proofs.«01_k».proof.Proof.Gen.ReferenceIdeal.Run
public import proofs.«01_k».proof.Proof.Gen.Reference.Run

@[expose] public section

noncomputable section

namespace Cert.Proof.LastRow

open Cert.KernelIdeal
open Idealize.ShloMosaic Idealize.ShloMosaic.ValueIdx Idealize.ShloMosaic.TcCoe Idealize.SL.Sem

/-- The dimension numbers of the reference's gather. -/
abbrev refDims := Cert.ReferenceIdeal.gather_S2x2048x32000_S1x2_S1x32000_1_01_n_n_01_1_1132000

/-- The gather at the start indices `[0, 2047]` is the last row: column `k` of the result is `x[0, 2047, k]`. -/
theorem gather_eq {α : Type} (x : S2x2048x32000.Idx → α) (idx : IVec ⟨2, ![1, 2]⟩ 32)
    (h0 : idx (ix2 (0 : Fin 1) (0 : Fin 2)) = 0#32) (h1 : idx (ix2 (0 : Fin 1) (1 : Fin 2)) = 2047#32) :
    Host.gather refDims x idx = lastRow x := by
  funext (i : S1x32000.Idx)
  obtain ⟨z, k, rfl⟩ : ∃ (z : Fin 1) (k : Fin 32000), i = ix2 z k := ⟨i 0, i 1, eq_ix2 i⟩
  obtain rfl : z = 0 := Subsingleton.elim _ _
  unfold Host.gather lastRow
  congr 1
  funext a
  refine Fin.ext ?_
  show refDims.start (ix2 (0 : Fin 1) k) idx a + refDims.batchCoord (ix2 (0 : Fin 1) k) a + refDims.offCoord (ix2 (0 : Fin 1) k) a = _
  rw [GatherDims.batchCoord_eq_zero _ _ _ (List.not_mem_nil)]
  have ha : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (by decide))]
    unfold GatherDims.start
    rw [dif_pos (show (0 : Fin 3) ∈ refDims.startIndexMap by decide)]
    have hsi : refDims.siIdx (ix2 (0 : Fin 1) k) ⟨List.idxOf (0 : Fin 3) refDims.startIndexMap,
        List.idxOf_lt_length_iff.2 (by decide)⟩ = ix2 (0 : Fin 1) (0 : Fin 2) := by
      funext b; refine Fin.ext ?_
      match b with
      | ⟨0, _⟩ => rfl
      | ⟨1, _⟩ => rfl
    rw [hsi, h0]
    rfl
  · rw [GatherDims.offCoord_eq_zero _ _ _ (fun h => ((GatherDims.mem_sKept _ _).mp h).1 (by decide))]
    unfold GatherDims.start
    rw [dif_pos (show (1 : Fin 3) ∈ refDims.startIndexMap by decide)]
    have hsi : refDims.siIdx (ix2 (0 : Fin 1) k) ⟨List.idxOf (1 : Fin 3) refDims.startIndexMap,
        List.idxOf_lt_length_iff.2 (by decide)⟩ = ix2 (0 : Fin 1) (1 : Fin 2) := by
      funext b; refine Fin.ext ?_
      match b with
      | ⟨0, _⟩ => rfl
      | ⟨1, _⟩ => rfl
    rw [hsi, h1]
    rfl
  · unfold GatherDims.start GatherDims.offCoord
    rw [dif_neg (show (2 : Fin 3) ∉ refDims.startIndexMap by decide), dif_pos (show (2 : Fin 3) ∈ refDims.sKept by decide)]
    simp only [Nat.zero_add]
    rfl

/-- The reference over the reals ends with its result at the last row of `logits[0]`, and `logits` unchanged. -/
theorem run_ideal (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread _ Cert.ReferenceIdeal.τ).loc Cert.ReferenceIdeal.main_v19) = lastRow (α := Elt Ideal .f32) (m ((c.tc : Thread _ Cert.ReferenceIdeal.τ).loc Cert.ReferenceIdeal.main_arg0))
        ∧ r.2.mem ((c.tc : Thread _ Cert.ReferenceIdeal.τ).loc Cert.ReferenceIdeal.main_arg0) = m ((c.tc : Thread _ Cert.ReferenceIdeal.τ).loc Cert.ReferenceIdeal.main_arg0) :=
  (θ_run (Cert.ReferenceIdeal.defs (F := Ideal)) _ _).mono
    (fun _ h c => ⟨(h c).1.trans (gather_eq (α := Elt Ideal .f32) _ _ rfl rfl), (h c).2⟩) (Cert.ReferenceIdeal.Value.run m ρ)

/-- The reference over machine floats ends with its result at the last row of `logits[0]`, and `logits` unchanged. -/
theorem run_float (m : (ℓ : Loc Cert.Reference.nD Cert.Reference.τ Cert.Reference.sig) → Buf (Elt Bits) ℓ)
    (ρ : Dev Cert.Reference.nD → PrngReg) :
    θ_run (Cert.Reference.defs (F := Bits)) (onTc (τ := Cert.Reference.τ) (Cert.Reference.main (F := Bits))) ⟨m, fun _ => 0, ρ⟩ fun r =>
      ∀ c : Dev Cert.Reference.nD,
        r.2.mem ((c.tc : Thread _ Cert.Reference.τ).loc Cert.Reference.main_v19) = lastRow (α := Elt Bits .f32) (m ((c.tc : Thread _ Cert.Reference.τ).loc Cert.Reference.main_arg0))
        ∧ r.2.mem ((c.tc : Thread _ Cert.Reference.τ).loc Cert.Reference.main_arg0) = m ((c.tc : Thread _ Cert.Reference.τ).loc Cert.Reference.main_arg0) :=
  (θ_run (Cert.Reference.defs (F := Bits)) _ _).mono
    (fun _ h c => ⟨(h c).1.trans (gather_eq (α := Elt Bits .f32) _ _ rfl rfl), (h c).2⟩) (Cert.Reference.Value.run m ρ)

end Cert.Proof.LastRow

end
-- ==== Proof.lean ====
/-
  The proof of `Cert.Claim`: the kernel's frames and values from one run of the printed program (Proof/Run.lean, over any
  float values), the references' from their generated runs with the gather read (Proof/Ref.lean). Both programs leave
  `lastRow` of `logits` in their result, so the results are equal over the reals and, the row being moved and not computed,
  bit for bit over machine floats.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Run
public import proofs.«01_k».proof.Proof.Ref
public import Idealize.ShloMosaic.Adequacy
public import Idealize.ShloMosaic.Init

@[expose] public section

noncomputable section

namespace Cert.Proof

open Idealize.ShloMosaic Idealize.SL.Sem

/-- The kernel over machine floats runs as over any float values: it is the same text as the idealized one. -/
theorem kernel_run (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ fun r =>
      (∀ c : Dev Cert.Kernel.nD,
        r.2.mem ((c.tc : Thread Cert.Kernel.nD Cert.Kernel.τ).loc Cert.Kernel.main_v0)
            = LastRow.lastRow (α := Elt Bits .f32) (m ((c.tc : Thread Cert.Kernel.nD Cert.Kernel.τ).loc Cert.Kernel.main_arg0))
          ∧ r.2.mem ((c.tc : Thread Cert.Kernel.nD Cert.Kernel.τ).loc Cert.Kernel.main_arg0)
            = m ((c.tc : Thread Cert.Kernel.nD Cert.Kernel.τ).loc Cert.Kernel.main_arg0))
        ∧ r.2.sem = fun _ => 0 :=
  (θ_run Cert.KernelIdeal.defs _ _).mono (fun _ h => h) (LastRow.run_main (F := Bits) m ρ)

/-- The kernel at machine floats and at the reals, and both references, run and end quiescent with `logits` unchanged;
    the kernel's result equals the reference's over the reals and bit for bit. -/
theorem claim : Cert.Claim :=
  ⟨Cert.Kernel.Gen.facts, Cert.KernelIdeal.Gen.facts, Cert.ReferenceIdeal.Gen.facts, Cert.Reference.Gen.facts,
    fun m ρ _ => (θ_run Cert.Kernel.defs _ _).mono (fun _ h => ⟨fun c => (h.1 c).2, h.2⟩) (kernel_run m ρ),
    fun m ρ _ => (θ_run Cert.KernelIdeal.defs _ _).mono (fun _ h => ⟨fun c => (h.1 c).2, h.2⟩) (LastRow.run_main (F := Ideal) m ρ),
    fun m ρ _ => (θ_run Cert.ReferenceIdeal.defs _ _).mono
      (fun r h => ⟨fun c => (h c).2, sem_eq_zero_of_no_sems (by decide) r.2⟩) (LastRow.run_ideal m ρ),
    fun m ρ _ => (θ_run Cert.Reference.defs _ _).mono
      (fun r h => ⟨fun c => (h c).2, sem_eq_zero_of_no_sems (by decide) r.2⟩) (LastRow.run_float m ρ),
    trivial,
    fun m ρ m' ρ' _ hm =>
      ⟨fun c => LastRow.lastRow (α := Elt Ideal .f32) (m ((c.tc : Thread Cert.KernelIdeal.nD Cert.KernelIdeal.τ).loc Cert.KernelIdeal.main_arg0)),
        (θ_run Cert.KernelIdeal.defs _ _).mono (fun _ h => h.1) (LastRow.run_main (F := Ideal) m ρ),
        (θ_run Cert.ReferenceIdeal.defs _ _).mono
          (fun _ h c => ⟨(h c).1.trans (congrArg (LastRow.lastRow (α := Elt Ideal .f32)) (hm c)), (h c).2⟩) (LastRow.run_ideal m' ρ')⟩,
    fun m ρ m' ρ' _ hm =>
      ⟨fun c => LastRow.lastRow (α := Elt Bits .f32) (m ((c.tc : Thread Cert.Kernel.nD Cert.Kernel.τ).loc Cert.Kernel.main_arg0)),
        (θ_run Cert.Kernel.defs _ _).mono (fun _ h => h.1) (kernel_run m ρ),
        (θ_run Cert.Reference.defs _ _).mono
          (fun _ h c => ⟨(h c).1.trans (congrArg (LastRow.lastRow (α := Elt Bits .f32)) (hm c)), (h c).2⟩) (LastRow.run_float m' ρ')⟩⟩

end Cert.Proof

end
